-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x7168 : Shape := ⟨3, ![192, 1, 7168]⟩
abbrev S18432x7168 : Shape := ⟨2, ![18432, 7168]⟩
abbrev S18432 : Shape := ⟨1, ![18432]⟩
abbrev S192x7168 : Shape := ⟨2, ![192, 7168]⟩
abbrev S1x18432 : Shape := ⟨2, ![1, 18432]⟩
abbrev S192x18432 : Shape := ⟨2, ![192, 18432]⟩
abbrev S512x7168 : Shape := ⟨2, ![512, 7168]⟩
abbrev S1x512 : Shape := ⟨2, ![1, 512]⟩
abbrev S192x512 : Shape := ⟨2, ![192, 512]⟩
abbrev S7168x512 : Shape := ⟨2, ![7168, 512]⟩
abbrev S192x1x18432 : Shape := ⟨3, ![192, 1, 18432]⟩

abbrev nBuf : Space → Nat
  | .hbm => 7
  | .vmem => 7
  | .smem => 0
  | _ => 0

abbrev bufTy : (tb : Table) → Fin (tcTables nBuf tb) → BufTy
  | .hbm, ⟨0, _⟩ => ⟨S192x1x7168, .bf16⟩
  | .hbm, ⟨1, _⟩ => ⟨S18432x7168, .i8⟩
  | .hbm, ⟨2, _⟩ => ⟨S18432, .f32⟩
  | .hbm, ⟨3, _⟩ => ⟨S192x7168, .bf16⟩
  | .hbm, ⟨4, _⟩ => ⟨S1x18432, .f32⟩
  | .hbm, ⟨5, _⟩ => ⟨S192x18432, .bf16⟩
  | .hbm, ⟨6, _⟩ => ⟨S192x1x18432, .bf16⟩
  | .local _ .vmem, ⟨0, _⟩ => ⟨S192x7168, .bf16⟩
  | .local _ .vmem, ⟨1, _⟩ => ⟨S512x7168, .i8⟩
  | .local _ .vmem, ⟨2, _⟩ => ⟨S512x7168, .i8⟩
  | .local _ .vmem, ⟨3, _⟩ => ⟨S1x512, .f32⟩
  | .local _ .vmem, ⟨4, _⟩ => ⟨S1x512, .f32⟩
  | .local _ .vmem, ⟨5, _⟩ => ⟨S192x512, .bf16⟩
  | .local _ .vmem, ⟨6, _⟩ => ⟨S192x512, .bf16⟩
  | _, _ => ⟨S192x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x7168 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S192x1x7168 : Shape := ⟨3, ![192, 1, 7168]⟩
abbrev S18432x7168 : Shape := ⟨2, ![18432, 7168]⟩
abbrev S18432 : Shape := ⟨1, ![18432]⟩
abbrev S18432x1 : Shape := ⟨2, ![18432, 1]⟩
abbrev S192x1x18432 : Shape := ⟨3, ![192, 1, 18432]⟩

abbrev nBuf : Space → Nat
  | .hbm => 11
  | .vmem => 0
  | .smem => 0
  | _ => 0

abbrev bufTy : (tb : Table) → Fin (tcTables nBuf tb) → BufTy
  | .hbm, ⟨0, _⟩ => ⟨S192x1x7168, .bf16⟩
  | .hbm, ⟨1, _⟩ => ⟨S18432x7168, .i8⟩
  | .hbm, ⟨2, _⟩ => ⟨S18432, .f32⟩
  | .hbm, ⟨3, _⟩ => ⟨S18432x7168, .i32⟩
  | .hbm, ⟨4, _⟩ => ⟨S18432x7168, .bf16⟩
  | .hbm, ⟨5, _⟩ => ⟨S18432, .bf16⟩
  | .hbm, ⟨6, _⟩ => ⟨S18432x1, .bf16⟩
  | .hbm, ⟨7, _⟩ => ⟨S18432x7168, .bf16⟩
  | .hbm, ⟨8, _⟩ => ⟨S18432x7168, .bf16⟩
  | .hbm, ⟨9, _⟩ => ⟨S192x1x18432, .f32⟩
  | .hbm, ⟨10, _⟩ => ⟨S192x1x18432, .bf16⟩
  | _, _ => ⟨S192x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Block.lean ====
/-
  What ONE grid point of the kernel computes, over the extended reals (hand-written, untrusted). The body's one payload
  `k0_pay1` takes the point's scale row, its block of 512 rows of codes and the whole of `x`; element `(t, o)` of what it
  stores is `∑ k, x (t, k) * (code (o, k) * scale o)`: the transpose of the codes and the broadcast of the scales only say
  which element is read, and the casts to bf16 are the identity.
-/
module

public import proofs.«01_k».proof.Proof.Gen.KernelIdeal.Skeleton
public import Idealize.ShloMosaic.Lib.Pipeline.Value
public import Idealize.ShloMosaic.Lib.ValueIdx
public import Idealize.ShloMosaic.PureOps.Ideal.Laws

@[expose] public section

noncomputable section

namespace Cert.Proof.Block

open Idealize.ShloMosaic Idealize.ShloMosaic.ValueIdx Cert.KernelIdeal Cert.KernelIdeal.Gen

/-- The dimension numbers of the body's product, `[192, 7168] · [7168, 512]`. -/
abbrev D := dot_S192x7168_S7168x512_S192x512_1_0_0_1_n_n

/-- The left operand is read at the result's row … -/
theorem lhs_0 (j : S192x512.Idx) (q : D.contr.Idx) : (D.lhsIdx j q 0 : ℕ) = j 0 := by
  simp [DotDims.lhsIdx, D, dot_S192x7168_S7168x512_S192x512_1_0_0_1_n_n]; rfl
/-- … and the contraction's position, … -/
theorem lhs_1 (j : S192x512.Idx) (q : D.contr.Idx) : (D.lhsIdx j q 1 : ℕ) = q ⟨0, by decide⟩ :=
  D.lhsIdx_val_of_single rfl j q
/-- the right operand at the contraction's position … -/
theorem rhs_0 (j : S192x512.Idx) (q : D.contr.Idx) : (D.rhsIdx j q 0 : ℕ) = q ⟨0, by decide⟩ :=
  D.rhsIdx_val_of_single rfl j q
/-- … and the result's column. -/
theorem rhs_1 (j : S192x512.Idx) (q : D.contr.Idx) : (D.rhsIdx j q 1 : ℕ) = j 1 := by
  simp [DotDims.rhsIdx, D, dot_S192x7168_S7168x512_S192x512_1_0_0_1_n_n]; rfl

/-- The product into the zero accumulator is the sum over the contracted axis. -/
theorem product_apply (l : FVec Ideal S192x7168 .bf16) (r : FVec Ideal S7168x512 .bf16)
    (t : Fin 192) (o : Fin 512) :
    matmul D none l r (constant S192x512 .f32 0x00000000#32) (ix2 t o)
      = ∑ k : Fin 7168, l (ix2 t k) * r (ix2 k o) := by
  simp only [matmul]
  rw [Ideal.matmul_constant_zero_apply, ← Equiv.sum_comp (contrEquiv1 D 7168 rfl rfl).symm]
  refine Finset.sum_congr rfl fun k _ => ?_
  have hk := contrEquiv1_symm_val D 7168 rfl rfl k
  congr 2
  · funext a
    apply Fin.ext
    match a with
    | ⟨0, _⟩ => exact lhs_0 _ _
    | ⟨1, _⟩ => exact (lhs_1 _ _).trans hk
  · funext a
    apply Fin.ext
    match a with
    | ⟨0, _⟩ => exact (rhs_0 _ _).trans hk
    | ⟨1, _⟩ => exact rhs_1 _ _

/-- The block's dequantised and transposed weight at `(k, o)`: the code at `(o, k)` times the scale of row `o`. -/
theorem weight_apply (s : Vec Ideal S1x512 .f32) (w : Vec Ideal S512x7168 .i8) (k : Fin 7168) (o : Fin 512) :
    mulf (sitofp .bf16 (transpose S7168x512 [1, 0] w transposes_S512x7168_p1_0_S7168x512))
        (broadcastTo S7168x512 (truncf (F := Ideal) .bf16 (shapeCast S1x512 s shapeCasts_S1x512_S1x512) bitsLt_bf16_f32)
          broadcasts_S1x512_S7168x512) (ix2 k o)
      = FloatOps.sitofp (F := Ideal) .bf16 (w (ix2 o k)) * s (ix2 0 o) := by
  rw [mulf_apply, sitofp_apply]
  rw [transpose_apply [1, 0] w _ (ix2 k o) (ix2 o k) (fun b => match b with | ⟨0, _⟩ => rfl | ⟨1, _⟩ => rfl)]
  rw [broadcastTo_apply _ broadcasts_S1x512_S7168x512 (ix2 k o) (ix2 0 o)
    (fun a => match a with | ⟨0, _⟩ => rfl | ⟨1, _⟩ => rfl)]
  rw [truncf_apply, shapeCast_self]

/-- What the body stores at `(t, o)`, from the scale row `s`, the block of codes `w` and the activations `x`. -/
theorem payload_apply (s : Vec Ideal S1x512 .f32) (w : Vec Ideal S512x7168 .i8) (x : Vec Ideal S192x7168 .bf16)
    (t : Fin 192) (o : Fin 512) :
    k0_pay1 (F := Ideal) s w x (ix2 t o)
      = ∑ k : Fin 7168, x (ix2 t k) * (FloatOps.sitofp (F := Ideal) .bf16 (w (ix2 o k)) * s (ix2 0 o)) := by
  unfold k0_pay1
  rw [truncf_apply, product_apply]
  refine Finset.sum_congr rfl fun k _ => ?_
  rw [weight_apply, shapeCast_self]

end Cert.Proof.Block

end
-- ==== Proof.Array.lean ====
/-
  What the kernel's RESULT ARRAY holds after the run, over the extended reals (hand-written, untrusted). The 36 points write
  the 36 blocks of 512 columns, which cover the array; point `t`'s block of codes is rows `512 t …` of the codes, its block
  of scales columns `512 t …` of the scales' one row, so element `(t, o)` of the array is the whole row's sum `G`.
-/
module

public import proofs.«01_k».proof.Proof.Block
public import proofs.«01_k».proof.Proof.Gen.KernelIdeal.Run
public import proofs.«01_k».proof.Proof.Gen.KernelIdeal.Points
public import Idealize.ShloMosaic.Lib.Pipeline.ValueKit
public import Idealize.ShloMosaic.Lib.Claim

@[expose] public section

set_option maxRecDepth 16384

noncomputable section

namespace Cert.Proof.Array

open Idealize.ShloMosaic hiding ix1 ix2 ix3
open Idealize.ShloMosaic.ValueIdx Idealize.ShloMosaic.TcCoe Idealize.SL.Sem
open Cert.KernelIdeal Cert.KernelIdeal.Gen

variable (m : (ℓ : Loc nD τ sig) → Buf (Elt Ideal) ℓ)

/-- The linear layer as a `[192, 18432]` array of the three arguments: at `(t, o)` the sum over the model axis of the
    activation times the dequantised weight. -/
def linear (x : Vec Ideal S192x1x7168 .bf16) (w : Vec Ideal S18432x7168 .i8) (s : Vec Ideal S18432 .f32) :
    Vec Ideal S192x18432 .bf16 :=
  fun i => ∑ k : Fin 7168, x (ix3 (i 0) 0 k) * (FloatOps.sitofp (F := Ideal) .bf16 (w (ix2 (i 1) k)) * s (ix1 (i 1)))

/-- The index maps at point `t`: the activations whole, the codes' block row, the scales' and the result's block column. -/
theorem idx : ∀ t : Fin cfg0.N, win0_0.index t = ![0, 0] ∧ win0_1.index t = ![t.val, 0] ∧ win0_2.index t = ![0, t.val]
    ∧ win0_3.index t = ![0, t.val] :=
  (by decide +kernel : ∀ t : Fin grid0.N, _)

/-- The scales as the region finds them: the argument's elements in one row. -/
theorem scale_entry (c : Dev nD) (o : Fin 18432) :
    V m c main_v1 (ix2 0 o) = m ((c : Thread nD τ).loc main_arg2) (ix1 o) := by
  entry_read
  refine shapeCast_apply _ _ _ _ ?_
  show (S18432.rowMajor (ix1 o)).val = (S1x18432.rowMajor (ix2 0 o)).val
  rw [Shape.rowMajor_val_one, Shape.rowMajor_val_two]
  show o.val = 0 * 18432 + o.val
  omega

/-- The activations as the region finds them: the argument without its middle unit axis. -/
theorem act_entry (c : Dev nD) (t : Fin 192) (k : Fin 7168) :
    V m c main_v0 (ix2 t k) = m ((c : Thread nD τ).loc main_arg0) (ix3 t 0 k) := by
  entry_read
  refine shapeCast_apply _ _ _ _ ?_
  show (S192x1x7168.rowMajor (ix3 t 0 k)).val = (S192x7168.rowMajor (ix2 t k)).val
  rw [Shape.rowMajor_val_three, Shape.rowMajor_val_two]
  show (t.val * 1 + 0) * 7168 + k.val = t.val * 7168 + k.val
  omega

/-- Point `t`'s block of activations is the whole argument. -/
theorem act_block (c : Dev nD) (t : Fin cfg0.N) (a : Fin 192) (k : Fin 7168) :
    iblk m c 0 t (ix2 a k) = m ((c : Thread nD τ).loc main_arg0) (ix3 a 0 k) := by
  rw [← act_entry m c a k]
  blk_ext [iblk, idx t]

/-- Row `o` of point `t`'s block of codes is row `512 t + o` of the codes. -/
theorem code_block (c : Dev nD) (t : Fin cfg0.N) (o : Fin 512) (k : Fin 7168) (r : Fin 18432) (hr : r.val = t.val * 512 + o.val) :
    iblk m c 1 t (ix2 o k) = m ((c : Thread nD τ).loc main_arg1) (ix2 r k) := by
  blk_ext [iblk, V, idx t]
  exact hr.symm

/-- Element `o` of point `t`'s block of scales is scale `512 t + o`. -/
theorem scale_block (c : Dev nD) (t : Fin cfg0.N) (o : Fin 512) (r : Fin 18432) (hr : r.val = t.val * 512 + o.val) :
    iblk m c 2 t (ix2 0 o) = m ((c : Thread nD τ).loc main_arg2) (ix1 r) := by
  rw [← scale_entry m c r]
  blk_ext [iblk, idx t]
  exact hr.symm

/-- Point `t`'s payload at `(a, o)` is `linear` at `(a, 512 t + o)`. -/
theorem point (c : Dev nD) (t : Fin cfg0.N) (a : Fin 192) (o : Fin 512) (i : S192x18432.Idx) (h0 : (i 0).val = a.val)
    (h1 : (i 1).val = t.val * 512 + o.val) :
    k0_pay1 (F := Ideal) (iblk m c 2 t) (iblk m c 1 t) (iblk m c 0 t) (ix2 a o)
      = linear (m ((c : Thread nD τ).loc main_arg0)) (m ((c : Thread nD τ).loc main_arg1))
          (m ((c : Thread nD τ).loc main_arg2)) i := by
  obtain rfl : i 0 = a := Fin.ext h0
  refine (Block.payload_apply _ _ _ _ _).trans ?_
  refine Finset.sum_congr rfl fun k _ => ?_
  exact congrArg₂ (· * ·) (act_block m c t _ k)
    (congrArg₂ (· * ·) (congrArg (FloatOps.sitofp (F := Ideal) .bf16) (code_block m c t o k (i 1) h1))
      (scale_block m c t o (i 1) h1))

/-- After the run the kernel's result array is `linear` of the arguments. -/
theorem region_eq (c : Dev nD) : Value.reg_main_v2 m c
    = linear (m ((c : Thread nD τ).loc main_arg0)) (m ((c : Thread nD τ).loc main_arg1))
        (m ((c : Thread nD τ).loc main_arg2)) := by
  unfold Value.reg_main_v2
  refine (dats m 0 c).arrAt_eq_of_covers 3 _ (by decide +kernel) fun t hf y => ?_
  rw [after0_3]
  frame_out
  have hy : y = ix2 (n0 := 192) (n1 := 512) (y 0) (y 1) := by
    funext a
    match a with
    | ⟨0, _⟩ => rfl
    | ⟨1, _⟩ => rfl
  refine (congrArg (k0_pay1 (F := Ideal) (iblk m c 2 t) (iblk m c 1 t) (iblk m c 0 t)) hy).trans
    (point m c t (y 0) (y 1) _ ?_ ?_)
  · blk_simp [idx t]
  · blk_simp [idx t]

end Cert.Proof.Array

end
-- ==== Proof.Equation.lean ====
/-
  The reference's result IS the kernel's, over the extended reals (hand-written, untrusted): the kernel's `[192, 18432]` array
  `linear`, with the middle unit axis put back by the host, is the reference's term at every index. The reference widens a
  code to 32 bits before its cast to bf16 and the kernel casts the 8-bit word: both are the code's signed integer.
-/
module

public import proofs.«01_k».proof.Proof.Array
public import proofs.«01_k».proof.Proof.Gen.ReferenceIdeal.Read

@[expose] public section

noncomputable section

namespace Cert.Proof.Equation

open Idealize.ShloMosaic hiding ix1 ix2 ix3
open Idealize.ShloMosaic.ValueIdx

open Cert.KernelIdeal in
/-- The kernel's result `[192, 1, 18432]`: `linear` with the unit axis put back. -/
def result (x : Vec Ideal S192x1x7168 .bf16) (w : Vec Ideal S18432x7168 .i8) (s : Vec Ideal S18432 .f32) :
    Vec Ideal S192x1x18432 .bf16 :=
  shapeCast S192x1x18432 (Array.linear x w s) Cert.KernelIdeal.Gen.shapeCasts_S192x18432_S192x1x18432

/-- A code cast from its 8-bit word and from its sign extension to 32 bits: the same extended real. -/
theorem code_cast (b : BitVec 8) :
    FloatOps.sitofp (F := Ideal) .bf16 (b.signExtend 32) = FloatOps.sitofp (F := Ideal) .bf16 b := by
  show (((b.signExtend 32).toInt : ℝ) : EReal) = ((b.toInt : ℝ) : EReal)
  rw [BitVec.toInt_signExtend_of_le (by decide)]

open Cert.ReferenceIdeal Cert.ReferenceIdeal.Read in
/-- The reference's dequantised weight at `(o, k)`: the code there times the scale of row `o`. -/
theorem weight_apply (w : Vec Ideal S18432x7168 .i8) (s : Vec Ideal S18432 .f32) (o : Fin 18432) (k : Fin 7168) :
    val_main_v5 (F := Ideal) w s (ix2 o k) = FloatOps.sitofp (F := Ideal) .bf16 (w (ix2 o k)) * s (ix1 o) := by
  rw [val_main_v5_apply, val_main_v1_apply, val_main_v0_apply, val_main_v4_apply, val_main_v3_apply, val_main_v2_apply,
    code_cast]
  have e : idx_main_v3 (idx_main_v4 (ix2 o k)) = ix1 o := by
    funext a
    match a with
    | ⟨0, _⟩ => rfl
  rw [e]
  rfl

open Cert.KernelIdeal in
/-- The kernel's result at an index is `linear` at the index without its unit axis. -/
theorem result_apply (x : Vec Ideal S192x1x7168 .bf16) (w : Vec Ideal S18432x7168 .i8) (s : Vec Ideal S18432 .f32)
    (t : Fin 192) (u : Fin 1) (o : Fin 18432) :
    result x w s (ix3 t u o) = Array.linear x w s (ix2 t o) := by
  refine shapeCast_apply _ _ _ _ ?_
  rw [Shape.rowMajor_val_three, Shape.rowMajor_val_two]
  show t.val * 18432 + o.val = (t.val * 1 + u.val) * 18432 + o.val
  omega

open Cert.ReferenceIdeal Cert.ReferenceIdeal.Read in
/-- The reference's result is the kernel's. -/
theorem result_eq (x : Vec Ideal S192x1x7168 .bf16) (w : Vec Ideal S18432x7168 .i8) (s : Vec Ideal S18432 .f32) :
    val_main_v7 (F := Ideal) x w s = result x w s := by
  funext i
  obtain ⟨t, u, o, rfl⟩ : ∃ (t : Fin 192) (u : Fin 1) (o : Fin 18432), i = ix3 t u o :=
    ⟨i 0, i 1, i 2, funext fun a => match a with | ⟨0, _⟩ => rfl | ⟨1, _⟩ => rfl | ⟨2, _⟩ => rfl⟩
  refine Eq.trans ?_ (result_apply x w s t u o).symm
  rw [val_main_v7_apply]
  refine (val_main_v6_apply x w s _).trans ?_
  refine Finset.sum_congr rfl fun k _ => ?_
  have el : lidx_main_v6 (ix3 t u o) k = ix3 t 0 k := by
    funext a
    match a with
    | ⟨0, _⟩ => rfl
    | ⟨1, _⟩ => exact Fin.ext (by show u.val = 0; omega)
    | ⟨2, _⟩ => rfl
  have er : ridx_main_v6 (ix3 t u o) k = ix2 o k := by
    funext a
    match a with
    | ⟨0, _⟩ => rfl
    | ⟨1, _⟩ => rfl
  rw [el, er, weight_apply]

end Cert.Proof.Equation

end
-- ==== Proof.lean ====
/-
  The proof of `Cert.Claim` (hand-written, untrusted): the frames of the kernel, its idealization and the reference, the
  sanctioned idealization, and the algebraic claim. Both programs end with `Equation.result` of the three arguments: the
  kernel by `Array.region_eq` (its one region's array, the unit axis put back by the host), the reference by
  `Equation.result_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Run
public import proofs.«01_k».proof.Proof.Array
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to the end, leaves its arguments as they were, and has no semaphore whose counter could move. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems rfl r.2⟩) (Cert.ReferenceIdeal.Value.run (F := Ideal) m g)

/-- The kernel's result, its region's array with the unit axis put back, is `Equation.result` of its arguments. -/
theorem kernel_result (m : (ℓ : Loc Cert.KernelIdeal.nD Cert.KernelIdeal.τ Cert.KernelIdeal.sig) → Buf (Elt Ideal) ℓ)
    (c : Dev Cert.KernelIdeal.nD) :
    shapeCast _ (Cert.KernelIdeal.Value.reg_main_v2 m c) Cert.KernelIdeal.Gen.shapeCasts_S192x18432_S192x1x18432
      = Equation.result (m ((c.tc : Thread _ _).loc Cert.KernelIdeal.main_arg0))
          (m ((c.tc : Thread _ _).loc Cert.KernelIdeal.main_arg1)) (m ((c.tc : Thread _ _).loc Cert.KernelIdeal.main_arg2)) := by
  rw [Array.region_eq]
  rfl

/-- From equal arguments the idealized kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Equation.result (m ((c.tc : Thread _ _).loc Cert.KernelIdeal.main_arg0))
    (m ((c.tc : Thread _ _).loc Cert.KernelIdeal.main_arg1)) (m ((c.tc : Thread _ _).loc Cert.KernelIdeal.main_arg2)), ?_, ?_⟩
  · refine (θ_run (Cert.KernelIdeal.defs (F := Ideal)) _ _).mono (fun r h c => ?_) (Cert.KernelIdeal.Value.run m g)
    exact ⟨(h c).1.trans (kernel_result m c), (h c).2⟩
  · refine (θ_run (Cert.ReferenceIdeal.defs (F := Ideal)) _ _).mono (fun r h c => ?_)
      (Cert.ReferenceIdeal.Value.run (F := Ideal) m' g')
    obtain ⟨hv, ha⟩ := h c
    refine ⟨hv.trans ?_, ha⟩
    rw [Cert.ReferenceIdeal.Read.val_main_v7_eq, Equation.result_eq, (hargs c).1, (hargs c).2.1, (hargs c).2.2]

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial, algebraic⟩

end Cert.Proof

end
